-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x84x100x200 : Shape := ⟨4, ![8, 84, 100, 200]⟩
abbrev S1x8x8x128 : Shape := ⟨4, ![1, 8, 8, 128]⟩
abbrev S1x7 : Shape := ⟨2, ![1, 7]⟩
abbrev S1x1x1x1 : Shape := ⟨4, ![1, 1, 1, 1]⟩
abbrev S1x8 : Shape := ⟨2, ![1, 8]⟩

abbrev nBuf : Space → Nat
  | .hbm => 3
  | .vmem => 2
  | .smem => 0
  | _ => 0

abbrev bufTy : (tb : Table) → Fin (tcTables nBuf tb) → BufTy
  | .hbm, ⟨0, _⟩ => ⟨S8x84x100x200, .f32⟩
  | .hbm, ⟨1, _⟩ => ⟨S1x8x8x128, .f32⟩
  | .hbm, ⟨2, _⟩ => ⟨S1x7, .f32⟩
  | .local _ .vmem, ⟨0, _⟩ => ⟨S1x8x8x128, .f32⟩
  | .local _ .vmem, ⟨1, _⟩ => ⟨S1x7, .f32⟩
  | _, _ => ⟨S8x84x100x200, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8x84x100x200 : Shape := ⟨4, ![8, 84, 100, 200]⟩
abbrev S8x84x20000 : Shape := ⟨3, ![8, 84, 20000]⟩
abbrev S8x20000x84 : Shape := ⟨3, ![8, 20000, 84]⟩
abbrev S8x20000x4 : Shape := ⟨3, ![8, 20000, 4]⟩
abbrev S8x20000x80 : Shape := ⟨3, ![8, 20000, 80]⟩
abbrev S8x20000x1 : Shape := ⟨3, ![8, 20000, 1]⟩
abbrev S8x20000 : Shape := ⟨2, ![8, 20000]⟩
abbrev S_ : Shape := ⟨0, ![]⟩
abbrev S8x80x20000 : Shape := ⟨3, ![8, 80, 20000]⟩
abbrev S1x3 : Shape := ⟨2, ![1, 3]⟩
abbrev S1x1 : Shape := ⟨2, ![1, 1]⟩
abbrev S1 : Shape := ⟨1, ![1]⟩
abbrev S1x2 : Shape := ⟨2, ![1, 2]⟩
abbrev S1x4 : Shape := ⟨2, ![1, 4]⟩
abbrev S1x7 : Shape := ⟨2, ![1, 7]⟩

abbrev nBuf : Space → Nat
  | .hbm => 135
  | .vmem => 0
  | .smem => 0
  | _ => 0

abbrev hbmTy0_0 (i : Nat) : BufTy := match i % 128 with
  | 0 => ⟨S8x84x100x200, .f32⟩
  | 1 => ⟨S8x84x20000, .f32⟩
  | 2 => ⟨S8x20000x84, .f32⟩
  | 3 => ⟨S8x20000x4, .f32⟩
  | 4 => ⟨S8x20000x80, .f32⟩
  | 5 => ⟨S8x20000x1, .f32⟩
  | 6 => ⟨S8x20000, .f32⟩
  | 7 => ⟨S_, .f32⟩
  | 8 => ⟨S8x20000, .f32⟩
  | 9 => ⟨S8x20000, .f32⟩
  | 10 => ⟨S8x20000x1, .f32⟩
  | 11 => ⟨S8x20000, .f32⟩
  | 12 => ⟨S_, .f32⟩
  | 13 => ⟨S8x20000, .f32⟩
  | 14 => ⟨S8x20000, .f32⟩
  | 15 => ⟨S8x20000x1, .f32⟩
  | 16 => ⟨S8x20000, .f32⟩
  | 17 => ⟨S8x20000, .f32⟩
  | 18 => ⟨S_, .f32⟩
  | 19 => ⟨S_, .f32⟩
  | 20 => ⟨S_, .f32⟩
  | 21 => ⟨S8x20000, .f32⟩
  | 22 => ⟨S8x20000, .f32⟩
  | 23 => ⟨S_, .f32⟩
  | 24 => ⟨S8x20000, .f32⟩
  | 25 => ⟨S8x20000, .f32⟩
  | 26 => ⟨S8x20000x1, .f32⟩
  | 27 => ⟨S8x20000, .f32⟩
  | 28 => ⟨S8x20000, .f32⟩
  | 29 => ⟨S_, .f32⟩
  | 30 => ⟨S_, .f32⟩
  | 31 => ⟨S_, .f32⟩
  | 32 => ⟨S8x20000, .f32⟩
  | 33 => ⟨S8x20000, .f32⟩
  | 34 => ⟨S_, .f32⟩
  | 35 => ⟨S8x20000, .f32⟩
  | 36 => ⟨S8x20000, .f32⟩
  | 37 => ⟨S8x20000x1, .f32⟩
  | 38 => ⟨S8x20000, .f32⟩
  | 39 => ⟨S8x20000, .f32⟩
  | 40 => ⟨S_, .f32⟩
  | 41 => ⟨S_, .f32⟩
  | 42 => ⟨S_, .f32⟩
  | 43 => ⟨S8x20000, .f32⟩
  | 44 => ⟨S8x20000, .f32⟩
  | 45 => ⟨S_, .f32⟩
  | 46 => ⟨S8x20000, .f32⟩
  | 47 => ⟨S8x20000, .f32⟩
  | 48 => ⟨S8x20000x1, .f32⟩
  | 49 => ⟨S8x20000, .f32⟩
  | 50 => ⟨S8x20000, .f32⟩
  | 51 => ⟨S_, .f32⟩
  | 52 => ⟨S_, .f32⟩
  | 53 => ⟨S_, .f32⟩
  | 54 => ⟨S8x20000, .f32⟩
  | 55 => ⟨S8x20000, .f32⟩
  | 56 => ⟨S_, .f32⟩
  | 57 => ⟨S8x20000, .f32⟩
  | 58 => ⟨S8x20000, .f32⟩
  | 59 => ⟨S8x20000x1, .f32⟩
  | 60 => ⟨S8x20000x1, .f32⟩
  | 61 => ⟨S8x20000x1, .f32⟩
  | 62 => ⟨S8x20000x1, .f32⟩
  | 63 => ⟨S8x20000x4, .f32⟩
  | 64 => ⟨S8x80x20000, .f32⟩
  | 65 => ⟨S_, .i32⟩
  | 66 => ⟨S1x3, .i32⟩
  | 67 => ⟨S1x1, .i32⟩
  | 68 => ⟨S1, .i32⟩
  | 69 => ⟨S1x1, .i32⟩
  | 70 => ⟨S1, .i32⟩
  | 71 => ⟨S1x1, .i32⟩
  | 72 => ⟨S1, .i32⟩
  | 73 => ⟨S_, .i32⟩
  | 74 => ⟨S1, .i32⟩
  | 75 => ⟨S1, .i1⟩
  | 76 => ⟨S_, .i32⟩
  | 77 => ⟨S1, .i32⟩
  | 78 => ⟨S1, .i32⟩
  | 79 => ⟨S1, .i32⟩
  | 80 => ⟨S_, .i32⟩
  | 81 => ⟨S1, .i32⟩
  | 82 => ⟨S1, .i1⟩
  | 83 => ⟨S_, .i32⟩
  | 84 => ⟨S1, .i32⟩
  | 85 => ⟨S1, .i32⟩
  | 86 => ⟨S1, .i32⟩
  | 87 => ⟨S1x1, .i32⟩
  | 88 => ⟨S1x1, .i32⟩
  | 89 => ⟨S1x2, .i32⟩
  | 90 => ⟨S1x4, .f32⟩
  | 91 => ⟨S_, .i32⟩
  | 92 => ⟨S1, .i32⟩
  | 93 => ⟨S1, .i1⟩
  | 94 => ⟨S_, .i32⟩
  | 95 => ⟨S1, .i32⟩
  | 96 => ⟨S1, .i32⟩
  | 97 => ⟨S1, .i32⟩
  | 98 => ⟨S_, .i32⟩
  | 99 => ⟨S1, .i32⟩
  | 100 => ⟨S1, .i1⟩
  | 101 => ⟨S_, .i32⟩
  | 102 => ⟨S1, .i32⟩
  | 103 => ⟨S1, .i32⟩
  | 104 => ⟨S1, .i32⟩
  | 105 => ⟨S_, .i32⟩
  | 106 => ⟨S1, .i32⟩
  | 107 => ⟨S1, .i1⟩
  | 108 => ⟨S_, .i32⟩
  | 109 => ⟨S1, .i32⟩
  | 110 => ⟨S1, .i32⟩
  | 111 => ⟨S1, .i32⟩
  | 112 => ⟨S1x1, .i32⟩
  | 113 => ⟨S1x1, .i32⟩
  | 114 => ⟨S1x1, .i32⟩
  | 115 => ⟨S1x3, .i32⟩
  | 116 => ⟨S1, .f32⟩
  | 117 => ⟨S1, .f32⟩
  | 118 => ⟨S1, .f32⟩
  | 119 => ⟨S1x1, .f32⟩
  | 120 => ⟨S1, .f32⟩
  | 121 => ⟨S1x1, .f32⟩
  | 122 => ⟨S1, .f32⟩
  | 123 => ⟨S1x1, .f32⟩
  | 124 => ⟨S1, .f32⟩
  | 125 => ⟨S1x1, .f32⟩
  | 126 => ⟨S1, .f32⟩
  | 127 => ⟨S1x1, .f32⟩
  | _ => ⟨S8x84x100x200, .f32⟩

abbrev hbmTy0_1 (i : Nat) : BufTy := match i % 128 with
  | 0 => ⟨S1x1, .f32⟩
  | 1 => ⟨S1x1, .f32⟩
  | 2 => ⟨S1x1, .f32⟩
  | 3 => ⟨S1x1, .f32⟩
  | 4 => ⟨S1x1, .f32⟩
  | 5 => ⟨S1x1, .f32⟩
  | 6 => ⟨S1x7, .f32⟩
  | _ => ⟨S8x84x100x200, .f32⟩

abbrev hbmTy (i : Nat) : BufTy := match i / 128 with
  | 0 => hbmTy0_0 i
  | 1 => hbmTy0_1 i
  | _ => ⟨S8x84x100x200, .f32⟩

abbrev bufTy : (tb : Table) → Fin (tcTables nBuf tb) → BufTy
  | .hbm, ⟨i, _⟩ => hbmTy i
  | _, _ => ⟨S8x84x100x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_cst_6 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_7 : Ref sig .tc := ⟨.hbm, 51, rfl⟩
abbrev main_cst_8 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_9 : Ref sig .tc := ⟨.hbm, 73, rfl⟩
abbrev main_v41 : Ref sig .tc := ⟨.hbm, 74, rfl⟩
abbrev main_v42 : Ref sig .tc := ⟨.hbm, 75, rfl⟩
abbrev main_c_10 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_11 : Ref sig .tc := ⟨.hbm, 80, rfl⟩
abbrev main_v46 : Ref sig .tc := ⟨.hbm, 81, rfl⟩
abbrev main_v47 : Ref sig .tc := ⟨.hbm, 82, rfl⟩
abbrev main_c_12 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_13 : Ref sig .tc := ⟨.hbm, 91, rfl⟩
abbrev main_v55 : Ref sig .tc := ⟨.hbm, 92, rfl⟩
abbrev main_v56 : Ref sig .tc := ⟨.hbm, 93, rfl⟩
abbrev main_c_14 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_15 : Ref sig .tc := ⟨.hbm, 98, rfl⟩
abbrev main_v60 : Ref sig .tc := ⟨.hbm, 99, rfl⟩
abbrev main_v61 : Ref sig .tc := ⟨.hbm, 100, rfl⟩
abbrev main_c_16 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_17 : Ref sig .tc := ⟨.hbm, 105, rfl⟩
abbrev main_v65 : Ref sig .tc := ⟨.hbm, 106, rfl⟩
abbrev main_v66 : Ref sig .tc := ⟨.hbm, 107, rfl⟩
abbrev main_c_18 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩

abbrev nD : Nat := 1
abbrev τ : Topo := Topo.v7x

variable {F : FTy → Type} [FloatOps F]
-- ==== Proof.Spec.lean ====
/-
  The detection row, stated without either program: the seven numbers that both compute from the first channels of the
  first pixel of the first image.
-/
module

public import Idealize.ShloMosaic.PureOps.Ideal
public import Idealize.ShloMosaic.Lib.Pointwise
public import Idealize.ShloMosaic.Lib.IdealHost

@[expose] public section

noncomputable section

namespace Cert.Detection

open Idealize.ShloMosaic

/-- A coordinate limited to `[0, hi]`: raised to zero first, then lowered to `hi`. -/
def clipTo (hi v : EReal) : EReal := min hi (max 0 v)

/-- Half of an extent. -/
def half (v : EReal) : EReal := v * ((1 / 2 : ℝ) : EReal)

/-- Column `k` of the detection row made from a box's centre `(cx, cy)`, extents `(bw, bh)` and score `sc`, in an image
    200 wide and 100 high: the image's number (always 0), the two corners, the score, the class (always 0). -/
def row (cx cy bw bh sc : EReal) : Fin 7 → EReal :=
  ![0, clipTo ((200 : ℝ) : EReal) (cx - half bw), clipTo ((100 : ℝ) : EReal) (cy - half bh),
    clipTo ((200 : ℝ) : EReal) (cx + half bw), clipTo ((100 : ℝ) : EReal) (cy + half bh), sc, 0]

/-- Channel `k` of the first image at its first pixel. -/
def channel (x : (⟨4, ![8, 84, 100, 200]⟩ : Shape).Idx → EReal) (k : Fin 84) : EReal := x (ix4 0 k 0 0)

/-- The whole result as one function of the argument: the row of the first box, its centre in channels 0 and 1, its
    extents in channels 2 and 3, and the score of class 0 in channel 4. -/
def detection (x : (⟨4, ![8, 84, 100, 200]⟩ : Shape).Idx → EReal) : (⟨2, ![1, 7]⟩ : Shape).Idx → EReal :=
  fun j => row (channel x 0) (channel x 1) (channel x 2) (channel x 3) (channel x 4) (j 1)

/-! ## The constants that the programs print -/

/-- The word of `0.5`. -/
theorem half_word : Ideal.ofBits .f32 0x3F000000#32 = ((1 / 2 : ℝ) : EReal) := by
  simp [Ideal.ofBits, Ideal.ieee, -EReal.coe_mul]; norm_num
/-- The word of `2`. -/
theorem two_word : Ideal.ofBits .f32 0x40000000#32 = ((2 : ℝ) : EReal) := by
  simp [Ideal.ofBits, Ideal.ieee, -EReal.coe_mul]; norm_num
/-- The word of `200`, the image's width. -/
theorem width_word : Ideal.ofBits .f32 0x43480000#32 = ((200 : ℝ) : EReal) := by
  simp [Ideal.ofBits, Ideal.ieee, -EReal.coe_mul]; norm_num
/-- The word of `100`, the image's height. -/
theorem height_word : Ideal.ofBits .f32 0x42C80000#32 = ((100 : ℝ) : EReal) := by
  simp [Ideal.ofBits, Ideal.ieee, -EReal.coe_mul]; norm_num

/-- A quotient by two is a half, on all extended reals. -/
theorem div_two (v : EReal) : Ideal.div v ((2 : ℝ) : EReal) = half v := Ideal.div_coe two_ne_zero v

end Cert.Detection

end
-- ==== Proof.KernelValue.lean ====
/-
  What the kernel's result array holds after the run, over the extended reals: the detection row of the argument.
-/
module

public import proofs.«01_k».proof.Proof.Gen.KernelIdeal.Value
public import proofs.«01_k».proof.Proof.Spec

@[expose] public section

noncomputable section

namespace Cert.KernelIdeal.RowValue

open Cert.KernelIdeal Cert.KernelIdeal.Gen Cert.Detection Idealize.ShloMosaic Idealize.ShloMosaic.TcCoe Idealize.SL.Sem
open Idealize.ShloMosaic.Pipeline (Dat Window)

/-- The result's store begins at the array's origin. -/
theorem origin2 : (![0, 0] : Fin 2 → Nat) = fun _ => 0 := by
  simp only [← Matrix.zero_empty, Matrix.cons_zero_zero]
  rfl

/-- What the body leaves in its result's buffer: the row of the block's five numbers. The body writes it as a chain of
    five selects on the lane number, over a row of zeros. -/
theorem body_row (x0 : Vec Ideal S1x8x8x128 .f32) (j : S1x7.Idx) :
    out0_1 x0 j = row (x0 (ix4 0 0 0 0)) (x0 (ix4 0 1 0 0)) (x0 (ix4 0 2 0 0)) (x0 (ix4 0 3 0 0)) (x0 (ix4 0 4 0 0)) (j 1) := by
  unfold out0_1
  rw [View.canon_unit_zero origin2]
  pointwise [k0_pay1, k0_pay2, k0_pay3, k0_pay4, k0_pay5, k0_pay6, k0_pay7, k0_pay8, k0_pay9, k0_pay10, k0_pay11, k0_pay12]
  rw [half_word, width_word, height_word]
  generalize j 1 = l
  change Fin 7 at l
  fin_cases l <;> rfl

variable (m : (ℓ : Loc nD τ sig) → Buf (Elt Ideal) ℓ) (ρ : Dev nD → PrngReg)

/-- The argument as launched. -/
abbrev arg (c : Dev nD) : (⟨4, ![8, 84, 100, 200]⟩ : Shape).Idx → EReal := m ((c : Thread nD τ).loc main_arg0)

/-- At the region's entry the staged array is the corner slice of the argument. -/
theorem staged (c : Dev nD) :
    (V m c main_v0 : Vec Ideal S1x8x8x128 .f32)
      = extractStridedSlice S1x8x8x128 ![0, 0, 0, 0] (arg m c) slices_S8x84x100x200_S1x8x8x128_0_0_0_0 := by
  show V m c main_v0 = _
  unfold V hostOps0
  after_results

/-- The block that the only point stages holds, at channel `k` of its first pixel, the argument's channel `k` of its
    first pixel. -/
theorem block_channel (c : Dev nD) (t : Fin cfg0.N) (k : Fin 8) :
    iblk m c 0 t (ix4 0 k 0 0) = channel (arg m c) ⟨k.val, by omega⟩ := by
  obtain rfl := fin_N0 t
  have h : iblk m c 0 t0_0 (ix4 0 k 0 0) = (V m c main_v0 : Vec Ideal S1x8x8x128 .f32) (ix4 0 k 0 0) := by
    refine congrArg (V m c main_v0 : Vec Ideal S1x8x8x128 .f32) (funext fun a => Fin.ext ?_)
    have hx : win0_0.index t0_0 a = 0 := by revert a; decide +kernel
    exact Window.rect_emb_val_of_index_zero win0_0 t0_0 a hx _
  rw [h, staged]
  pointwise []
  rfl

/-- After the run the result array is the detection row of the argument. Its one block is the whole array, so an entry
    of the array is the same entry of what the only point wrote back. -/
theorem final (c : Dev nD) : (dats m 0 c).arrAt 1 cfg0.N = detection (arg m c) := by
  funext i
  have h := congrFun (Value.blocks1 m c t0_0 (flush0_1 t0_0)) i
  rw [Value.flushed1] at h
  have hi : ((cfg0.win 1).blk t0_0).view.emb i = i := by
    funext a; refine Fin.ext ?_
    have hx : win0_1.index t0_0 a = 0 := by revert a; decide +kernel
    exact Window.rect_emb_val_of_index_zero win0_1 t0_0 a hx _
  have hl : ((cfg0.win 1).blk t0_0).view.read (Elt Ideal) ((dats m 0 c).arrAt 1 cfg0.N) i
      = (dats m 0 c).arrAt 1 cfg0.N i := by
    rw [View.read_apply, hi]
    rfl
  rw [← hl, h]
  show out0_1 (iblk m c 0 t0_0) i = _
  rw [body_row]
  have e (k : Fin 8) := block_channel m c t0_0 k
  rw [e 0, e 1, e 2, e 3, e 4]
  rfl

/-- The kernel's run, read: the result at the detection row, the argument unchanged. -/
theorem run : θ_run defs (onTc (τ := τ) (main (F := Ideal))) ⟨m, fun _ => 0, ρ⟩ fun r => ∀ c : Dev nD,
      r.2.mem ((c : Thread nD τ).loc main_v1) = detection (arg m c)
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.RowValue

end
-- ==== Proof.ReferenceValue.lean ====
/-
  What the reference returns, over the extended reals: the detection row of the argument.
-/
module

public import proofs.«01_k».proof.Proof.Gen.ReferenceIdeal.Read
public import proofs.«01_k».proof.Proof.Spec

@[expose] public section

noncomputable section

namespace Cert.ReferenceIdeal.RowValue

open Cert.ReferenceIdeal Cert.ReferenceIdeal.Gen Cert.ReferenceIdeal.Read Cert.Detection Idealize.ShloMosaic
open Idealize.ShloMosaic.StableHlo (after)

/-- A gather without batching axes whose start indices are all zero reads the operand at the offset coordinates alone. -/
theorem gather_zero {α : Type} {s si t : Shape} {w : Nat} (d : GatherDims s si t) (hb : d.operandBatchingDims = [])
    (x : s.Idx → α) (idx : IVec si w) (hz : ∀ k, idx k = 0#w) (j : t.Idx) (i : s.Idx)
    (hi : ∀ a, (i a).val = d.offCoord j a) : Host.gather d x idx j = x i := by
  refine congrArg x (funext fun a => Fin.ext ?_)
  have hs : d.start j idx a = 0 := by
    unfold GatherDims.start
    split
    · rw [hz]; simp
    · rfl
  show d.start j idx a + d.batchCoord j a + d.offCoord j a = (i a).val
  rw [hs, d.batchCoord_eq_zero j a (by rw [hb]; exact List.not_mem_nil), hi, Nat.zero_add]

/-- The image's number that the reference selects is zero. -/
theorem image_zero (i : S1.Idx) : val_main_v36 (F := Ideal) i = 0#32 := by
  rw [val_main_v36_apply, val_main_v35_apply, val_main_v34_apply, val_main_c_apply]

/-- So is the class's, -/
theorem class_zero (i : S1.Idx) : val_main_v38 (F := Ideal) i = 0#32 := by
  rw [val_main_v38_apply, val_main_v37_apply, val_main_v34_apply, val_main_c_apply]

/-- and the box's. -/
theorem box_zero (i : S1.Idx) : val_main_v40 (F := Ideal) i = 0#32 := by
  rw [val_main_v40_apply, val_main_v39_apply, val_main_v34_apply, val_main_c_apply]

/-- A start index is raised by the axis's extent only where it is negative; zero is not, so zero stays. -/
theorem zero_kept (y : BitVec 32) : Scalar.select (IntOp.cmpi .slt 0#32 0#32) y 0#32 = 0#32 := rfl

/-- The start indices of the boxes' gather: image 0, box 0. -/
theorem box_start (k : S1x2.Idx) : val_main_v53 (F := Ideal) k = 0#32 := by
  have h51 (i) : val_main_v51 (F := Ideal) i = 0#32 := by
    rw [val_main_v51_apply, val_main_v45_apply, val_main_v42_apply, val_main_v41_apply, val_main_c_9_apply, image_zero, zero_kept]
  have h52 (i) : val_main_v52 (F := Ideal) i = 0#32 := by
    rw [val_main_v52_apply, val_main_v50_apply, val_main_v47_apply, val_main_v46_apply, val_main_c_11_apply, box_zero, zero_kept]
  unfold val_main_v53
  pointwise [h51, h52]
  split <;> rfl

/-- The start indices of the scores' gather: image 0, class 0, box 0. -/
theorem score_start (k : S1x3.Idx) : val_main_v73 (F := Ideal) k = 0#32 := by
  have h70 (i) : val_main_v70 (F := Ideal) i = 0#32 := by
    rw [val_main_v70_apply, val_main_v59_apply, val_main_v56_apply, val_main_v55_apply, val_main_c_13_apply, image_zero, zero_kept]
  have h71 (i) : val_main_v71 (F := Ideal) i = 0#32 := by
    rw [val_main_v71_apply, val_main_v64_apply, val_main_v61_apply, val_main_v60_apply, val_main_c_15_apply, class_zero, zero_kept]
  have h72 (i) : val_main_v72 (F := Ideal) i = 0#32 := by
    rw [val_main_v72_apply, val_main_v69_apply, val_main_v66_apply, val_main_v65_apply, val_main_c_17_apply, box_zero, zero_kept]
  unfold val_main_v73
  pointwise [h70, h71, h72]
  split
  · rfl
  · split <;> rfl

variable (x : (⟨S8x84x100x200, .f32⟩ : BufTy).Contents (Elt Ideal))

/-- The gathered box is box 0 of image 0. -/
theorem box_read (j : S1x4.Idx) : val_main_v54 (F := Ideal) x j = val_main_v32 (F := Ideal) x (ix3 0 0 (j 1)) := by
  unfold val_main_v54
  refine gather_zero _ rfl _ _ box_start j _ fun a => ?_
  match a with
  | ⟨0, _⟩ => exact (GatherDims.offCoord_eq_zero gather_S8x20000x4_S1x2_S1x4_1_01_n_n_01_1_114 j (0 : Fin 3) (by decide)).symm
  | ⟨1, _⟩ => exact (GatherDims.offCoord_eq_zero gather_S8x20000x4_S1x2_S1x4_1_01_n_n_01_1_114 j (1 : Fin 3) (by decide)).symm
  | ⟨2, _⟩ => rfl

/-- The gathered score is class 0's of box 0 of image 0, which is the argument's channel 4. -/
theorem score_read (j : S1.Idx) : val_main_v74 (F := Ideal) x j = channel x 4 := by
  have h : val_main_v74 (F := Ideal) x j = val_main_v33 (F := Ideal) x (ix3 0 0 0) := by
    unfold val_main_v74
    refine gather_zero _ rfl _ _ score_start j _ fun a => ?_
    match a with
    | ⟨0, _⟩ => exact (GatherDims.offCoord_eq_zero gather_S8x80x20000_S1x3_S1_n_012_n_n_012_1_111 j (0 : Fin 3) (by decide)).symm
    | ⟨1, _⟩ => exact (GatherDims.offCoord_eq_zero gather_S8x80x20000_S1x3_S1_n_012_n_n_012_1_111 j (1 : Fin 3) (by decide)).symm
    | ⟨2, _⟩ => exact (GatherDims.offCoord_eq_zero gather_S8x80x20000_S1x3_S1_n_012_n_n_012_1_111 j (2 : Fin 3) (by decide)).symm
  rw [h]
  pointwise [val_main_v33, val_main_v3, val_main_v1, val_main_v0]
  rfl

/-- The first box's four coordinates: its corners, each limited to the image. -/
theorem corners (l : Fin 4) : val_main_v32 (F := Ideal) x (ix3 0 0 l)
    = row (channel x 0) (channel x 1) (channel x 2) (channel x 3) (channel x 4) ⟨l.val + 1, by omega⟩ := by
  unfold val_main_v32
  fin_cases l
  all_goals
    pointwise [val_main_v28, val_main_v29, val_main_v30, val_main_v31, val_main_v15, val_main_v19, val_main_v23,
      val_main_v27, val_main_call0_v0, val_main_call0_v1, val_main_call0_v2, val_main_call0_v3, val_main_call0_v4, val_main_call1_v0, val_main_call1_v1, val_main_call1_v2, val_main_call1_v3, val_main_call1_v4, val_main_call2_v0, val_main_call2_v1, val_main_call2_v2, val_main_call2_v3, val_main_call2_v4, val_main_call3_v0, val_main_call3_v1, val_main_call3_v2, val_main_call3_v3, val_main_call3_v4,
      val_main_v14, val_main_v13, val_main_v12, val_main_v18, val_main_v17, val_main_v16, val_main_v22, val_main_v21,
      val_main_v20, val_main_v26, val_main_v25, val_main_v24, val_main_v11, val_main_v10, val_main_v9, val_main_v8,
      val_main_v7, val_main_v6, val_main_v5, val_main_v4, val_main_v2, val_main_v1, val_main_v0, val_main_cst, val_main_cst_0, val_main_cst_1, val_main_cst_2, val_main_cst_3, val_main_cst_4, val_main_cst_5, val_main_cst_6, val_main_cst_7, val_main_cst_8]
    simp only [id_eq, constant_apply, Ideal.ofBits_def, Ideal.ofBits_zero_f32, two_word, width_word, height_word, div_two]
    rfl

/-- The integer zero, read as a float, is zero. -/
theorem zero_read : FloatOps.sitofp (F := Ideal) .f32 (0#32) = (0 : EReal) := by
  show (((0#32).toInt : ℝ) : EReal) = 0
  simp

/-- The reference's result is the detection row of its argument: seven columns set side by side, the first and the last
    the zero numbers read as floats, four the gathered box's corners, one the gathered score. -/
theorem value : val_main_v92 (F := Ideal) x = detection x := by
  funext j
  have h85 (i) : val_main_v85 (F := Ideal) i = (0 : EReal) := by
    rw [val_main_v85_apply, val_main_v75_apply, image_zero]
    exact zero_read
  have h91 (i) : val_main_v91 (F := Ideal) i = (0 : EReal) := by
    rw [val_main_v91_apply, val_main_v76_apply, class_zero]
    exact zero_read
  unfold val_main_v92 detection
  pointwise [h85, h91, val_main_v86, val_main_v87, val_main_v88, val_main_v89, val_main_v90, val_main_v77, val_main_v78,
    val_main_v79, val_main_v80, val_main_v81, val_main_v82, val_main_v83, val_main_v84, box_read, score_read]
  have c0 := corners x 0
  have c1 := corners x 1
  have c2 := corners x 2
  have c3 := corners x 3
  rw [c0, c1, c2, c3]
  generalize j 1 = l
  change Fin 7 at l
  fin_cases l <;> rfl

end Cert.ReferenceIdeal.RowValue

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.KernelValue
public import proofs.«01_k».proof.Proof.ReferenceValue
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.ReferenceIdeal.RowValue

open Cert.ReferenceIdeal Idealize.ShloMosaic Idealize.ShloMosaic.TcCoe Idealize.SL.Sem

variable (m : (ℓ : Loc nD τ sig) → Buf (Elt Ideal) ℓ) (ρ : Dev nD → PrngReg)

/-- The reference's run, read: the result at the detection row, the argument unchanged. -/
theorem run : θ_run defs (onTc (τ := τ) (main (F := Ideal))) ⟨m, fun _ => 0, ρ⟩ fun r => ∀ c : Dev nD,
      r.2.mem ((c : Thread nD τ).loc main_v92) = Cert.Detection.detection (m ((c : Thread nD τ).loc main_arg0))
      ∧ r.2.mem ((c : Thread nD τ).loc main_arg0) = m ((c : Thread nD τ).loc main_arg0) :=
  (θ_run defs _ _).mono (fun _ h c => ⟨(h c).1.trans ((Read.val_main_v92_eq m c).trans (value _)), (h c).2⟩)
    (Cert.ReferenceIdeal.Value.run (F := Ideal) m ρ)

end Cert.ReferenceIdeal.RowValue

namespace Cert.Proof

open Idealize.ShloMosaic Idealize.ShloMosaic.TcCoe Idealize.SL.Sem

/-- The reference's frame: it has no semaphore, and its run leaves its argument as launched. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On one argument the kernel and the reference return the same seven numbers, the detection row of that argument. -/
theorem same_row : Cert.algebraic_KernelIdeal_ReferenceIdeal := by
  intro m ρ m' ρ' _ hagree
  refine ⟨fun c => Cert.Detection.detection (Cert.KernelIdeal.RowValue.arg m c), Cert.KernelIdeal.RowValue.run m ρ, ?_⟩
  refine (θ_run Cert.ReferenceIdeal.defs _ _).mono (fun _ h c => ⟨(h c).1.trans ?_, (h c).2⟩)
    (Cert.ReferenceIdeal.RowValue.run m' ρ')
  rw [hagree c]

/-- The claim: the three frames, the preservation, the equality of the results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, same_row⟩

end Cert.Proof

end
